-- ==== Defs.lean ====
def Pre_Kernel [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_table [hPre_idx_in_table : Cert.Pre_idx_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_table : Cert.Pre_idx_in_table.Facts] (m : (ℓ : Loc Cert.Reference.nD Cert.Reference.τ Cert.Reference.sig) → Buf (Elt Bits) ℓ) : Prop :=
  ∀ c : Dev Cert.Reference.nD,
    (Cert.Pre_idx_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_table [hReferenceIdeal : Cert.ReferenceIdeal.Facts] [hPre_idx_in_table : Cert.Pre_idx_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_table : Cert.Pre_idx_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_idx_in_table : Cert.Pre_idx_in_table.Facts),
    quiescent_Kernel (hKernel := hKernel) (hPre_idx_in_table := hPre_idx_in_table)
    ∧ quiescent_KernelIdeal (hKernelIdeal := hKernelIdeal) (hPre_idx_in_table := hPre_idx_in_table)
    ∧ quiescent_ReferenceIdeal (hReferenceIdeal := hReferenceIdeal)
    ∧ quiescent_ReferenceIdeal_pre_idx_in_table (hReferenceIdeal := hReferenceIdeal) (hPre_idx_in_table := hPre_idx_in_table)
    ∧ quiescent_Reference (hReference := hReference) (hPre_idx_in_table := hPre_idx_in_table)
    ∧ preserves_Kernel_KernelIdeal
    ∧ algebraic_KernelIdeal_ReferenceIdeal (hKernelIdeal := hKernelIdeal) (hReferenceIdeal := hReferenceIdeal) (hPre_idx_in_table := hPre_idx_in_table)
    ∧ bitexact_Kernel_Reference (hKernel := hKernel) (hReference := hReference) (hPre_idx_in_table := hPre_idx_in_table)
-- ==== Pre_idx_in_table.lean ====
abbrev S16384 : Shape := ⟨1, ![16384]⟩
abbrev S1000 : Shape := ⟨1, ![1000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000 : Shape := ⟨1, ![1000]⟩
abbrev S1024 : Shape := ⟨1, ![1024]⟩
abbrev S_ : Shape := ⟨0, ![]⟩
abbrev S16 : Shape := ⟨1, ![16]⟩

abbrev nBuf : Table → Nat
  | .hbm => 3
  | .local .scVector .vmem => 3
  | _ => 0

abbrev bufTy : (tb : Table) → Fin (nBuf tb) → BufTy
  | .hbm, ⟨0, _⟩ => ⟨S16384, .i32⟩
  | .hbm, ⟨1, _⟩ => ⟨S1000, .f32⟩
  | .hbm, ⟨2, _⟩ => ⟨S16384, .f32⟩
  | .local .scVector .vmem, ⟨0, _⟩ => ⟨S1024, .i32⟩
  | .local .scVector .vmem, ⟨1, _⟩ => ⟨S1024, .f32⟩
  | .local .scVector .vmem, ⟨2, _⟩ => ⟨S1000, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1024_i32 : BitVec 32 := 1024#32
  let v0 : BitVec 32 := Scalar.muli arg1 c1024_i32
  ![v0.toNat]
@[reducible] def k0_t1_loop : Scf.Loop 32 :=
  let c0_i32_0 : BitVec 32 := 0#32
  let c64_i32 : BitVec 32 := 64#32
  let v5 : BitVec 32 := Scalar.addi c0_i32_0 c64_i32
  let c1_i32 : BitVec 32 := 1#32
  ⟨c0_i32_0, v5, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v6 : BitVec 32 := Scalar.muli arg10 c16_i32
  let v7 : Index := Scalar.indexCast v6
  ![v7.toNat]

def k0_chk1 (v8 : IVec S16 32) : Prop :=
  (∀ a x, ((![v8] : Fin 1 → IVec S16 32) a x).toNat < S1000.size a)
theorem k0_idx1_inb : ∀ (v8 : IVec S16 32) (k0_hw1 : k0_chk1 v8), ∀ a x, ((![v8] : Fin 1 → IVec S16 32) a x).toNat < S1000.size a := fun v8 k0_hw1 => k0_hw1
def k0_off3 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32_2 : BitVec 32 := 16#32
  let v10 : BitVec 32 := Scalar.muli arg10 c16_i32_2
  let v11 : Index := Scalar.indexCast v10
  ![v11.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S1000 : Shape := ⟨1, ![1000]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]
-- ==== Proof.Lookup.lean ====
/-
  What the kernel computes, as a function of the launch memory: element `y` of the result is the table's entry at
  the `y`-th time step. The time steps are 32-bit words; where each of them names one of the table's 1000 entries
  (`InTable`, which the precondition says: `inTable_of_fn`) the entry meant is the one at the word's value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_table
public import Idealize.ShloMosaic.Lib.ReduceAll
public import Idealize.ShloMosaic.Lib.Affine

@[expose] public section

noncomputable section

namespace Cert.Proof.Lookup

open Idealize.ShloMosaic Idealize.SL.Sem

variable {F : FTy → Type}

abbrev SSteps : Shape := ⟨1, ![16384]⟩
abbrev STable : Shape := ⟨1, ![1000]⟩

/-- The table's index that a word names: its value as a number, which is itself when it is below 1000. -/
def entry (w : BitVec 32) : STable.Idx := fun a => ⟨w.toNat % STable.size a, Nat.mod_lt _ (by
  obtain rfl : a = 0 := Subsingleton.elim _ _
  decide)⟩

/-- A word below 1000 names the index of its own value. -/
theorem entry_val {w : BitVec 32} (h : w.toNat < 1000) (a : Fin STable.rank) : (entry w a).val = w.toNat := by
  obtain rfl : a = 0 := Subsingleton.elim _ _
  exact Nat.mod_eq_of_lt h

/-- An index of the table whose coordinate is the word's value is the index the word names. -/
theorem eq_entry {w : BitVec 32} (h : w.toNat < 1000) (j : STable.Idx) (hj : (j 0).val = w.toNat) : j = entry w := by
  funext a
  obtain rfl : a = 0 := Subsingleton.elim _ _
  exact Fin.ext (hj.trans (entry_val h 0).symm)

/-- Every time step names one of the table's entries. -/
def InTable (t : IVec SSteps 32) : Prop := ∀ y, (t y).toNat < 1000

/-- A word that is at least 0 and below 1000 as a signed number is below 1000 as a natural number. -/
theorem word_lt (w : BitVec 32) (h0 : IntOp.cmpi .sge w 0#32 = 1#1) (h1 : IntOp.cmpi .slt w 1000#32 = 1#1) : w.toNat < 1000 := by
  have bit (p : Bool) : (BitVec.ofBool p = 1#1) ↔ p = true := by cases p <;> decide
  simp only [IntOp.cmpi, bit, BitVec.sle_eq_decide, BitVec.slt_eq_decide, decide_eq_true_eq, BitVec.toInt_eq_toNat_cond,
    BitVec.toNat_ofNat, Nat.reducePow, Nat.reduceMod] at h0 h1
  omega

/-- The precondition's function returning true says that every time step names an entry of the table. -/
theorem inTable_of_fn [FloatOps F] (t : IVec SSteps 32) (x : FVec F STable .f32)
    (h : Pre_idx_in_table.fn (F := F) t x = fun _ => 1#1) : InTable t := by
  intro y
  have : Subsingleton Cert.Pre_idx_in_table.S_.Idx := ⟨fun a b => funext fun i => i.elim0⟩
  have e := congrFun h (fun a => a.elim0)
  have e' := Host.reduce_andi_all _ _ _ _ _ e y
  obtain ⟨h0, h1⟩ := IntOp.andi_eq_one.1 e'
  exact word_lt _ h0 h1

/-- The values looked up: the table's entry at each time step. -/
def looked (t : IVec SSteps 32) (x : STable.Idx → Elt F .f32) : SSteps.Idx → Elt F .f32 := fun y => x (entry (t y))

end Cert.Proof.Lookup

end
-- ==== Proof.Tile.lean ====
/-
  One task of the kernel. Sixteen vector subcores each take a block of 1024 time steps. A task copies the whole table
  and its block of time steps into scratch memory (two transfers in flight at once, each on a semaphore of its own),
  goes over the block in 64 trips of 16 lanes (load the time steps, look the table up at them, store the values), and
  copies the block of values out. `tile_body` states what a task needs and leaves: from its block of the time steps, a
  share of the table and its block of the result, it hands the same back, the block of the result holding the table's
  entries at the time steps (`Lookup.looked`).
-/
module

public import proofs.«01_k».proof.Proof.Lookup
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ViewIndex
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lookup

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The proof's ghost state: the handshakes' rounds beside the transfers' counters. -/
abbrev UH : Type := URounds (GSem nD τ sig) ℕ
abbrev UU : Type := UH × Counters

local notation "𝕄" => MT nD τ sig (HIx 1) (Elt F) ℕ UU ℕ

/-- The handshakes' rounds stand in the left factor. -/
abbrev EH : Emb UH (MT nD τ sig (HIx 1) (Elt F) ℕ UU ℕ) := embL

/-! ## The arrays -/

variable (m : (ℓ : Loc nD τ sig) → Buf (Elt F) ℓ)

/-- The time steps, the table and the result, as locations of device `d`. -/
abbrev tLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v0

/-- Every time step in the launch memory names an entry of the table. -/
def PreOK : Prop := ∀ d : Dev nD, InTable (m (tLoc d))

/-- What the result is to hold. -/
def out (d : Dev nD) : Buf (Elt F) (oLoc d) := looked (F := F) (m (tLoc d)) (m (bLoc d))

variable [FloatOps F]

-- the kernel's memrefs as its body takes them
abbrev tV : Memref sig .scVector .hbm S16384 .i32 := Memref.whole main_arg0_scv
abbrev bV : Memref sig .scVector .hbm S1000 .f32 := Memref.whole main_arg1_scv
abbrev oV : Memref sig .scVector .hbm S16384 .f32 := Memref.whole main_v0_scv
abbrev sT : Memref sig .scVector .vmem S1024 .i32 := Memref.whole cc0_scratch0
abbrev sO : Memref sig .scVector .vmem S1024 .f32 := Memref.whole cc0_scratch1
abbrev sB : Memref sig .scVector .vmem S1000 .f32 := Memref.whole cc0_scratch2

/-- Block `i` of sixteen: time steps `1024 * i` to `1024 * i + 1023`. -/
theorem hdiv : 16 ∣ S16384.size 0 := ⟨1024, rfl⟩
abbrev block (i : Fin 16) : Rect S16384 := Rect.part (s := S16384) (a₀ := 0) hdiv i

/-- The share of the table that task `i` reads it under. -/
abbrev tq (i : Fin 16) : PosShare TreeShare := Transfers.dealOf fullShare Finset.univ i

abbrev tPts (d : Dev nD) : sProp 𝕄 := tLoc d ↦{fullShare} m (tLoc d)
abbrev bPts (d : Dev nD) : sProp 𝕄 := bLoc d ↦{fullShare} m (bLoc d)
abbrev oPts (d : Dev nD) (f : Buf (Elt F) (oLoc d)) : sProp 𝕄 := oLoc d ↦{fullShare} f
abbrev tBlk (d : Dev nD) (i : Fin 16) : sProp 𝕄 := tLoc d ↦[(block i).set]{fullShare} m (tLoc d)
abbrev bShare (d : Dev nD) (i : Fin 16) : sProp 𝕄 := bLoc d ↦{tq i} m (bLoc d)
abbrev oBlk (d : Dev nD) (i : Fin 16) (f : Buf (Elt F) (oLoc d)) : sProp 𝕄 := oLoc d ↦[(block i).set]{fullShare} f

/-! ## The task -/

section Task

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)
/-- The task's thread. -/
abbrev thr (d : Dev nD) (L : grid0.Coords) : Thread nD τ := V d (cV L) (jV L)

/-- The block of the time steps, and of the result, as the task slices them. -/
abbrev rK (L : grid0.Coords) : Rect S16384 := Rect.unit (s := S16384) (k0_off1 L) S1024.size (k0_off1_inb L)
abbrev tK (L : grid0.Coords) : Memref sig .scVector .hbm S1024 .i32 := tV.slice (rK L) (fun _ => rfl)
abbrev oK (L : grid0.Coords) : Memref sig .scVector .hbm S1024 .f32 := oV.slice (rK L) (fun _ => rfl)

omit [FloatOps F] in
/-- The slice is the block of the task's number. -/
theorem rK_eq : rK L = block (jL L) := by
  unfold rK block Rect.part Rect.block
  congr 1 <;> funext a
  · rw [k0_off1_eq]
    obtain rfl : a = 0 := Subsingleton.elim _ _
    simp [Shape.partIx, Shape.partSize, Nat.mul_comm]
  · obtain rfl : a = 0 := Subsingleton.elim _ _
    simp [Shape.partSize]

omit [FloatOps F] in
theorem set_tK : (tK L).view.set = (block (jL L)).set := by
  show ((View.whole (main_arg0_scv : Ref sig .scVector)).slice (rK L)).set = _
  rw [View.set_slice, rK_eq]; exact Finset.map_refl
omit [FloatOps F] in
theorem set_oK : (oK L).view.set = (block (jL L)).set := by
  show ((View.whole (main_v0_scv : Ref sig .scVector)).slice (rK L)).set = _
  rw [View.set_slice, rK_eq]; exact Finset.map_refl

omit [FloatOps F] in
theorem pts_tK (f : Buf (Elt F) (tLoc d)) :
    ((tK L).view.loc (thr d L) ↦[(tK L).view.set]{fullShare} f : sProp 𝕄) = tLoc d ↦[(block (jL L)).set]{fullShare} f := by
  rw [set_tK]
omit [FloatOps F] in
theorem pts_oK (f : Buf (Elt F) (oLoc d)) :
    ((oK L).view.loc (thr d L) ↦[(oK L).view.set]{fullShare} f : sProp 𝕄) = oLoc d ↦[(block (jL L)).set]{fullShare} f := by
  rw [set_oK]

/-- The task's semaphores: the table's fetch, the time steps' fetch, the write-out. -/
abbrev cB (d : Dev nD) (L : grid0.Coords) : GSem nD τ sig := (thr d L, .dma cc0_scratch3.sem)
abbrev cT (d : Dev nD) (L : grid0.Coords) : GSem nD τ sig := (thr d L, .dma cc0_scratch4.sem)
abbrev cO (d : Dev nD) (L : grid0.Coords) : GSem nD τ sig := (thr d L, .dma cc0_scoped0.sem)

omit [FloatOps F] in
/-- The task's own counters at zero: those three and the rest. -/
theorem ownSems0_split :
    (ownSems0 (thr d L) : sProp 𝕄)
      = iprop(semVal (cB d L) 0 ∗ semVal (cT d L) 0 ∗ semVal (cO d L) 0
          ∗ bigSep ((((ownCells (thr d L)).erase (cB d L)).erase (cT d L)).erase (cO d L)) fun g => semVal g 0) := by
  have hB : cB d L ∈ ownCells (thr d L) := mem_ownCells.mpr ⟨rfl, by
    show (SemLoc.dma cc0_scratch3.sem : SemLoc sig).isScoped .scVector = true; decide⟩
  have hT : cT d L ∈ ownCells (thr d L) := mem_ownCells.mpr ⟨rfl, by
    show (SemLoc.dma cc0_scratch4.sem : SemLoc sig).isScoped .scVector = true; decide⟩
  have hO : cO d L ∈ ownCells (thr d L) := mem_ownCells.mpr ⟨rfl, by
    show (SemLoc.dma cc0_scoped0.sem : SemLoc sig).isScoped .scVector = true; decide⟩
  have hTB : cT d L ≠ cB d L := fun e => absurd (Prod.mk.inj e).2 (by decide)
  have hOB : cO d L ≠ cB d L := fun e => absurd (Prod.mk.inj e).2 (by decide)
  have hOT : cO d L ≠ cT d L := fun e => absurd (Prod.mk.inj e).2 (by decide)
  unfold SparseCore.Cfg.ownSems0
  rw [SparseCore.bigSep_erase' hB, SparseCore.bigSep_erase' (Finset.mem_erase.mpr ⟨hTB, hT⟩),
    SparseCore.bigSep_erase' (Finset.mem_erase.mpr ⟨hOT, Finset.mem_erase.mpr ⟨hOB, hO⟩⟩)]

/-- A scratch buffer of the task, as one of the device's. -/
abbrev own (L : grid0.Coords) (b : Ref sig .scVector) : DevRef τ sig := (Proc.scVector (cV L) (jV L)).devRef b

omit [FloatOps F] in
/-- The task's own buffers: the three scratch buffers and the rest. -/
theorem ownBufs_split :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  have h0 : own L cc0_scratch0 ∈ ownRefs (τ := τ) (.scVector (cV L) (jV L)) := SparseCore.Cfg.mem_ownRefs_of_owner rfl
  have h1 : own L cc0_scratch1 ∈ ownRefs (τ := τ) (.scVector (cV L) (jV L)) := SparseCore.Cfg.mem_ownRefs_of_owner rfl
  have h2 : own L cc0_scratch2 ∈ ownRefs (τ := τ) (.scVector (cV L) (jV L)) := SparseCore.Cfg.mem_ownRefs_of_owner rfl
  have h10 : own L cc0_scratch1 ≠ own L cc0_scratch0 := fun e =>
    absurd (Proc.devRef_injective _ e) (show (cc0_scratch1 : Ref sig .scVector) ≠ cc0_scratch0 by decide)
  have h20 : own L cc0_scratch2 ≠ own L cc0_scratch0 := fun e =>
    absurd (Proc.devRef_injective _ e) (show (cc0_scratch2 : Ref sig .scVector) ≠ cc0_scratch0 by decide)
  have h21 : own L cc0_scratch2 ≠ own L cc0_scratch1 := fun e =>
    absurd (Proc.devRef_injective _ e) (show (cc0_scratch2 : Ref sig .scVector) ≠ cc0_scratch1 by decide)
  unfold SparseCore.Cfg.ownBufs
  refine (SparseCore.bigSep_erase' h0).trans ?_
  rw [SparseCore.bigSep_erase' (Finset.mem_erase.mpr ⟨h10, h1⟩),
    SparseCore.bigSep_erase' (Finset.mem_erase.mpr ⟨h21, Finset.mem_erase.mpr ⟨h20, h2⟩⟩)]

/-- What the scratch of time steps holds once fetched: the task's block. -/
def steps : Buf (Elt F) ((thr d L).loc cc0_scratch0) := (tK L).view.read (Elt F) (m (tLoc d))

/-- What the scratch of values is to hold after the last trip: the table's entry at each of the block's time steps. -/
def vals : Buf (Elt F) ((thr d L).loc cc0_scratch1) := fun j => m (bLoc d) (entry (steps m d L j))

/-- The loop's invariant before trip `k`: the block of time steps and the table in their scratches, and the first
    `16 * k` values looked up. -/
def inv (k : ℕ) (_ : PUnit) : sProp 𝕄 :=
  iprop((sT.view.loc (thr d L) ↦{fullShare} steps m d L)
    ∗ (sB.view.loc (thr d L) ↦{fullShare} m (bLoc d))
    ∗ ∃ g : Buf (Elt F) ((thr d L).loc cc0_scratch1), ⌜∀ j : S1024.Idx, (j 0).val < 16 * k → g j = vals m d L j⌝
        ∗ sO.view.loc (thr d L) ↦{fullShare} g)

omit [FloatOps F] in
/-- Every time step of the block names an entry of the table. -/
theorem steps_lt (hpre : PreOK m) (j : S1024.Idx) : (steps m d L j).toNat < 1000 := hpre d _

/-- The lanes of trip `k`, as the trip reads the time steps and as it writes the values. -/
abbrev rT (k : Fin k0_t1_loop.trips) : Rect S1024 := Rect.unit (s := S1024) (k0_off2 k) S16.size (k0_off2_inb k)
abbrev rO (k : Fin k0_t1_loop.trips) : Rect S1024 := Rect.unit (s := S1024) (k0_off3 k) S16.size (k0_off3_inb k)

omit [FloatOps F] in
/-- They are the same lanes. -/
theorem rO_emb (k : Fin k0_t1_loop.trips) (x : S16.Idx) : (rO k).emb x = (rT k).toLoadRect.idx x := by
  funext a
  apply Fin.ext
  show k0_off3 k a + 1 * (x a).val = k0_off2 k a + 1 * (x a).val
  rw [k0_off3_eq, k0_off2_eq]

omit [FloatOps F] in
/-- The check of trip `k` passes: the time steps it loaded name entries of the table. -/
theorem chk (hpre : PreOK m) (k : Fin k0_t1_loop.trips) :
    k0_chk1 (sT.view.readAt (Elt F) (rT k).toLoadRect (steps m d L)) := by
  intro a x
  obtain rfl : a = 0 := Subsingleton.elim _ _
  exact steps_lt m d L hpre _

omit [FloatOps F] in
/-- Trip `k` looks sixteen more values up: with the first `16 * k` in place before it, the first `16 * (k + 1)` are after. -/
theorem trip_vals (hpre : PreOK m) (k : Fin k0_t1_loop.trips) (T : S1000.Idx → Elt F .f32) (hT : T = m (bLoc d))
    (g : Buf (Elt F) ((thr d L).loc cc0_scratch1))
    (hg : ∀ j : S1024.Idx, (j 0).val < 16 * k.val → g j = vals m d L j)
    (h : ∀ a x, ((![sT.view.readAt (Elt F) (rT k).toLoadRect (steps m d L)] : Fin 1 → IVec S16 32) a x).toNat < S1000.size a)
    (j : S1024.Idx) (hj : (j 0).val < 16 * (k.val + 1)) :
    sO.view.writes (Elt F) g [⟨rO k, loadIdx (F := F) (s := S1000) (e := .f32) T ![sT.view.readAt (Elt F) (rT k).toLoadRect (steps m d L)] h⟩] j
      = vals m d L j := by
  subst hT
  have hoff : k0_off3 k 0 = 16 * k.val := congrFun (k0_off3_eq k) 0
  by_cases hlt : (j 0).val < 16 * k.val
  · exact (View.read_writes_cons_miss_of_axis sO.view g _ [] j 0 (16 * k.val) 16 hoff rfl rfl (.inl hlt)).trans (hg j hlt)
  · have hx : (j 0).val - 16 * k.val < 16 := by omega
    have he : (rO k).emb (Shape.ofLane (d := ![16]) ⟨(j 0).val - 16 * k.val, hx⟩) = j := by
      funext a
      obtain rfl : a = 0 := Subsingleton.elim _ _
      apply Fin.ext
      show k0_off3 k 0 + 1 * ((j 0).val - 16 * k.val) = (j 0).val
      omega
    refine (View.read_writes_cons_hit sO.view g (rO k) _ [] _ j he).trans ?_
    rw [rO_emb] at he
    have hw := congrArg (steps m d L) he
    refine congrArg (m (bLoc d)) ?_
    exact (eq_entry (steps_lt m d L hpre _) _ rfl).trans (congrArg entry hw)

omit [FloatOps F] in
/-- The loop makes 64 trips. -/
theorem trips_eq : k0_t1_loop.trips = 64 := by decide +kernel

omit [FloatOps F] in
/-- The result is to hold, in the task's block, the values that the task looks up. -/
theorem read_out : (oK L).view.read (Elt F) (out m d) = vals m d L := rfl

omit [FloatOps F] in
/-- The block of the result once written out: the values the result is to hold there. -/
theorem out_block (f : Buf (Elt F) (oLoc d)) (i : S16384.Idx) (hi : i ∈ (oK L).view.set) :
    (oK L).view.writes (Elt F) f [⟨Rect.whole S1024, vals m d L⟩] i = out m d i := by
  obtain ⟨j, -, rfl⟩ := Finset.mem_map.mp hi
  refine View.eq_of_read_eq ?_
  rw [read_out]
  exact View.read_writes_cons_hit (oK L).view f (Rect.whole S1024) (vals m d L) [] j j (Rect.emb_whole_apply _ _)

omit [FloatOps F] in
theorem written_out (f : Buf (Elt F) (oLoc d)) :
    ((oK L).view.loc (thr d L) ↦[(oK L).view.set]{fullShare} (oK L).view.writes (Elt F) f
          [⟨Rect.whole S1024, vals m d L⟩] : sProp 𝕄)
      = ((oK L).view.loc (thr d L) ↦[(oK L).view.set]{fullShare} out m d) :=
  pointsTo_congr (out_block m d L f)

/-- A task's run, from what it needs to what it leaves, spelt as the task's program addresses them. -/
theorem tile_run (hpre : PreOK m) (O : CellTallies nD τ sig (HIx 1)) (W : Waits sig (HIx 1))
    (f0 : Buf (Elt F) ((thr d L).loc cc0_scratch0)) (f1 : Buf (Elt F) ((thr d L).loc cc0_scratch1)) (f2 : Buf (Elt F) ((thr d L).loc cc0_scratch2)) :
    (iprop(Transfers.MayWaits (thr d L) (none : HIx 1) O
        ∗ ((tK L).view.loc (thr d L) ↦[(tK L).view.set]{fullShare} m (tLoc d))
        ∗ (bV.view.loc (thr d L) ↦{tq (jL L)} m (bLoc d))
        ∗ ((oK L).view.loc (thr d L) ↦[(oK L).view.set]{fullShare} m (oLoc d))
        ∗ (sT.view.loc (thr d L) ↦{fullShare} f0)
        ∗ (sO.view.loc (thr d L) ↦{fullShare} f1)
        ∗ (sB.view.loc (thr d L) ↦{fullShare} f2)
        ∗ semVal (cB d L) 0 ∗ semVal (cT d L) 0 ∗ semVal (cO d L) 0
        ∗ owes (thr d L) O W) : sProp 𝕄)
      ⊢ wp frame (wpE (defs₀ (F := F)) 𝒱₀ (thr d L) none) Set.univ
          (cc0__gather_body L tV (Memref.isWhole_whole _) bV (Memref.isWhole_whole _) oV (Memref.isWhole_whole _)
            sT (Memref.isWhole_whole _) sO (Memref.isWhole_whole _) sB (Memref.isWhole_whole _) cc0_scratch3 cc0_scratch4 cc0_scoped0)
          fun _ => iprop(((tK L).view.loc (thr d L) ↦[(tK L).view.set]{fullShare} m (tLoc d))
            ∗ (bV.view.loc (thr d L) ↦{tq (jL L)} m (bLoc d))
            ∗ ((oK L).view.loc (thr d L) ↦[(oK L).view.set]{fullShare} out m d)
            ∗ (∃ f, sT.view.loc (thr d L) ↦{fullShare} f)
            ∗ (∃ f, sO.view.loc (thr d L) ↦{fullShare} f)
            ∗ (∃ f, sB.view.loc (thr d L) ↦{fullShare} f)
            ∗ semVal (cB d L) 0 ∗ semVal (cT d L) 0 ∗ semVal (cO d L) 0
            ∗ ∃ W', ⌜∀ p ∈ W', p ∈ W ∨ p.2 = none⌝ ∗ owes (thr d L) O W') := by
  rw [cc0__gather_body_eq_skeleton]
  sl_unfold [cc0__gather_body_skel]
  iintro ⟨#Hmw, HT, HB, HO, H0, H1, H2, Hc0, Hc1, Hc2, Hw⟩
  sl_exec
  have e2 : sB.view.write (Elt F) f2 (tile_run.sl.dma0 m d) Finset.univ = m (bLoc d) := View.write_whole_univ _ _ _
  have e0 : sT.view.write (Elt F) f0 (tile_run.sl.dma0_1 m d L) Finset.univ = steps m d L := View.write_whole_univ _ _ _
  rw [e2, e0]
  sl_for (inv m d L) $$ [H0 H1 H2]
  case region =>
    intro k _
    unfold inv
    iintro ⟨H0, H2, %g, %hg, H1⟩
    sl_exec
    rw [wp_assume_of _ _ _ _ (chk m d L hpre k)]
    iapply (SparseCore.wp_vectorLoadIdx 𝒱₀ (thr d L) none Set.univ (base := sB) (S := Finset.univ) (q := fullShare) (Finset.subset_univ _)) $$ H2
    iintro H2
    sl_exec
    sl_step
    isplitl [H0]; · iexact H0
    isplitl [H2]; · iexact H2
    iexists _
    isplitr; rotate_left
    · iexact H1
    · ipureintro; exact fun j hj => trip_vals m d L hpre k _ (Memref.read_access_whole (Elt F) cc0_scratch2 (m (bLoc d))) g hg _ j hj
  · unfold inv
    isplitl [H0]; · iexact H0
    isplitl [H2]; · iexact H2
    iexists f1
    isplitr
    · ipureintro; intro j hj; exact absurd hj (by omega)
    · iexact H1
  iintro %_ HI
  unfold inv
  icases HI with ⟨H0, H2, %g, %hg, H1⟩
  obtain rfl : g = vals m d L := funext fun j => hg j (by
    have hj : (j 0).val < 1024 := (j 0).isLt
    have ht : Scf.trips k0_t1_loop.lb k0_t1_loop.ub k0_t1_loop.st = 64 := trips_eq
    omega)
  sl_exec
  have e1 : tile_run.sl.dma0_2 m d L = vals m d L := rfl
  rw [e1]
  ihave HO := (Entails.of_eq (written_out m d L _)) $$ HO
  sl_step
  isplitl [HT]; · iexact HT
  isplitl [HB]; · iexact HB
  isplitl [HO]; · iexact HO
  isplitl [H0]; · iexists _; iexact H0
  isplitl [H1]; · iexists _; iexact H1
  isplitl [H2]; · iexists _; iexact H2
  isplitl [Hc0]; · iexact Hc0
  isplitl [Hc1]; · iexact Hc1
  isplitl [Hc2]; · iexact Hc2
  iexists _
  isplitr; rotate_left
  · iexact Hw
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

/-- A task's body as the launch asks for it: from its block of the time steps, its share of the table and its block of
    the result, with its own scratch memory and its semaphores at zero, it runs to its end and hands them back, the block
    of the result holding the values that `out` names. -/
theorem tile_body (hF : (K (F := F)).Facts) (hpre : PreOK m) (O : CellTallies nD τ sig (HIx 1)) (W : Waits sig (HIx 1))
    (hO : ∀ g, O g none = 0) :
    iprop(levAts (K (F := F)).L (K (F := F)).lev ∗ emp
        ∗ (tBlk m d (jL L) ∗ bShare m d (jL L) ∗ oBlk d (jL L) (m (oLoc d)))
        ∗ scopedBufs (thr d L) ∗ scopedSems0 (thr d L) ∗ owes (thr d L) O W)
      ⊢ wp frame (wpE (defs₀ (F := F)) 𝒱₀ (thr d L) none) Set.univ
          (cc0__gather_body L tV (Memref.isWhole_whole _) bV (Memref.isWhole_whole _) oV (Memref.isWhole_whole _)
            sT (Memref.isWhole_whole _) sO (Memref.isWhole_whole _) sB (Memref.isWhole_whole _) cc0_scratch3 cc0_scratch4 cc0_scoped0)
          fun _ => iprop((tBlk m d (jL L) ∗ bShare m d (jL L) ∗ oBlk d (jL L) (out m d))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_split, ownBufs_split]
  iintro ⟨#Hlv, -, ⟨HT, HB, HO⟩, ⟨⟨%f0, H0⟩, ⟨%f1, H1⟩, ⟨%f2, H2⟩, Hbufs⟩, ⟨Hc0, Hc1, Hc2, Hsems⟩, Hw⟩
  ihave Hmw := ((K (F := F)).mayWaits_none (thr := thr d L) hO) $$ Hlv
  iapply (wp_wand_r Idealize.ShloMosaic.frame (wpE (defs₀ (F := F)) 𝒱₀ (thr d L) none) Set.univ)
  isplitl [HT HB HO H0 H1 H2 Hc0 Hc1 Hc2 Hw]
  · iapply (tile_run m d L hpre O W f0 f1 f2)
    isplitr; · iexact Hmw
    isplitl [HT]; · iapply (Entails.of_eq (pts_tK (F := F) d L _).symm); iexact HT
    isplitl [HB]; · iexact HB
    isplitl [HO]; · iapply (Entails.of_eq (pts_oK (F := F) d L _).symm); iexact HO
    isplitl [H0]; · iexact H0
    isplitl [H1]; · iexact H1
    isplitl [H2]; · iexact H2
    isplitl [Hc0]; · iexact Hc0
    isplitl [Hc1]; · iexact Hc1
    isplitl [Hc2]; · iexact Hc2
    iexact Hw
  iintro %_ ⟨HT, HB, HO, H0, H1, H2, Hc0, Hc1, Hc2, %W', %hW', Hw⟩
  isplitl [HT HB HO]
  · isplitl [HT]; · iapply (Entails.of_eq (pts_tK (F := F) d L _)); iexact HT
    isplitl [HB]; · iexact HB
    iapply (Entails.of_eq (pts_oK (F := F) d L _)); iexact HO
  isplitl [H0 H1 H2 Hbufs]
  · isplitl [H0]; · iexact H0
    isplitl [H1]; · iexact H1
    isplitl [H2]; · iexact H2
    iexact Hbufs
  isplitl [Hc0 Hc1 Hc2 Hsems]
  · isplitl [Hc0]; · iexact Hc0
    isplitl [Hc1]; · iexact Hc1
    isplitl [Hc2]; · iexact Hc2
    iexact Hsems
  iexists W'
  isplitr
  · ipureintro; exact fun p hp => (hW' p hp).imp_right .inl
  · iexact Hw

end Task

end Cert.Proof.Tile

end
-- ==== Proof.Launch.lean ====
/-
  The kernel's launch. The one call hands the arrays to the SparseCore, which cuts the time steps and the result into
  sixteen blocks, deals the table into sixteen shares, and runs a task (`Tile.tile_body`) on each; joined again, the
  result holds the table's entries at all the time steps. `run_main` states the whole program's run: over any memory
  whose time steps name entries of the table it ends, the two arguments as they were, the result at `Tile.out`, every
  semaphore at zero. It is stated for any interpretation of the floats.
-/
module

public import proofs.«01_k».proof.Proof.Tile

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lookup Cert.Proof.Tile

variable {F : FTy → Type}

local notation "𝕄" => MT nD τ sig (HIx 1) (Elt F) ℕ UU ℕ

/-! ## The program as the launch theorem takes it -/

abbrev D [FloatOps F] : Defs nD τ sig (Elt F) (ΛP (F := F)) := Pipeline.defs pcfgs defs₀
abbrev 𝒱 : Variants := 𝒱₀.lift
abbrev v₀ : 𝒱.V := Sum.inl none

/-- The launch's semaphores are apart and none is a task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl

variable (m : (ℓ : Loc nD τ sig) → Buf (Elt F) ℓ) (ρ : Dev nD → PrngReg)
variable [FloatOps F]

/-- What the call passes down and gets back: the arrays, whole between the TensorCore and the SparseCore, in blocks and
    shares between the SparseCore and its tasks; the result as launched on the way down, at `out` on the way back. -/
def P : (K (F := F)).Pay (nD := nD) (Val := Elt F) (Name := ℕ) (U := UU) where
  st := fun _ d _ => iprop(tPts m d ∗ bPts m d ∗ oPts d (m (oLoc d)))
  dn := fun _ d _ => iprop(tPts m d ∗ bPts m d ∗ oPts d (out m d))
  go := fun q d _ i => match q with
    | 0 => iprop(tBlk m d (Fin.cast nSub_zero i) ∗ bShare m d (Fin.cast nSub_zero i) ∗ oBlk d (Fin.cast nSub_zero i) (m (oLoc d)))
  td := fun q d _ i => match q with
    | 0 => iprop(tBlk m d (Fin.cast nSub_zero i) ∗ bShare m d (Fin.cast nSub_zero i) ∗ oBlk d (Fin.cast nSub_zero i) (out m d))
  x := fun _ _ => iprop(emp)

instance P_storable : (P (F := F) m).IsStorable where
  st _ _ _ := by unfold P; infer_instance
  dn _ _ _ := by unfold P; infer_instance
  go q _ _ _ := by match q with | 0 => unfold P; infer_instance
  td q _ _ _ := by match q with | 0 => unfold P; infer_instance

/-! ## The tasks -/

/-- The coordinates of a task. -/
def coordsV (c : Fin (grid0.bound 0)) (s : Fin (grid0.bound 1)) : grid0.Coords :=
  fun | 0 => c | 1 => s | ⟨_ + 2, h⟩ => absurd h (Nat.not_lt.2 (Nat.le_add_left _ _))

/-- The program of a vector subcore: the kernel's body at the subcore's coordinates. -/
theorem defs₀_vector (c : Fin τ.nSC) (s : Fin τ.nSub) :
    defs₀ (F := F) (.scVector c s) 0 ()
      = SparseCore.onTile hcore0 hsub0 (fun c s => cc0__gather_body (coordsV c s)
          tV (Memref.isWhole_whole _) bV (Memref.isWhole_whole _) oV (Memref.isWhole_whole _)
          sT (Memref.isWhole_whole _) sO (Memref.isWhole_whole _) sB (Memref.isWhole_whole _) cc0_scratch3 cc0_scratch4 cc0_scoped0) ⟨⟩ c s := rfl

/-- Every task runs from what it is passed to what it gives back. -/
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (coordsV ⟨_, hc.1⟩ ⟨_, hc.2⟩) facts hpre O W hO

omit [FloatOps F] in
/-- A sum over the tasks is a sum over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem blocks_disjoint : ∀ i ∈ (Finset.univ : Finset (Fin 16)), ∀ j ∈ (Finset.univ : Finset (Fin 16)), i ≠ j → Disjoint (block i).set (block j).set :=
  fun _ _ _ _ h => Rect.part_disjoint hdiv h
omit [FloatOps F] in
theorem blocks_cover : (Finset.univ : Finset (Fin 16)).biUnion (fun i => (block i).set) = Finset.univ := Rect.biUnion_part hdiv

omit [FloatOps F] in
/-- The arrays, whole, are the sixteen tasks' blocks and shares of them, whatever the result holds. -/
theorem arrays_split (d : Dev nD) (f : Buf (Elt F) (oLoc d)) :
    (bigSep Finset.univ fun i : Fin ((K (F := F)).nSub 0) =>
        iprop(tBlk m d (Fin.cast nSub_zero i) ∗ bShare m d (Fin.cast nSub_zero i) ∗ oBlk d (Fin.cast nSub_zero i) f))
      = (iprop(tPts m d ∗ bPts m d ∗ oPts d f) : sProp 𝕄) := by
  rw [bigSep_tasks (F := F) (fun i => iprop(tBlk m d i ∗ bShare m d i ∗ oBlk d i f)), bigSep_sep', bigSep_sep']
  unfold tPts bPts oPts
  rw [Transfers.pointsTo_deal (ℓ := bLoc d) (Finset.univ : Finset (Fin 16)) Finset.univ_nonempty fullShare]
  rw [← pointsTo_biUnion Finset.univ (ℓ := tLoc d) (fun i => (block i).set) blocks_disjoint,
    ← pointsTo_biUnion Finset.univ (ℓ := oLoc d) (fun i => (block i).set) blocks_disjoint, blocks_cover]

/-- The SparseCore's arrays split into the tasks' shares, and the tasks' shares, given back, join. -/
theorem vecSplit : (K (F := F)).VecSplit' (P m) 0 := by
  intro d c
  show iprop(tPts m d ∗ bPts m d ∗ oPts d (m (oLoc d))) ⊢ |={Set.univ}=> iprop(
      (bigSep Finset.univ fun i : Fin ((K (F := F)).nSub 0) =>
        iprop(tBlk m d (Fin.cast nSub_zero i) ∗ bShare m d (Fin.cast nSub_zero i) ∗ oBlk d (Fin.cast nSub_zero i) (m (oLoc d))))
      ∗ ((bigSep Finset.univ fun i : Fin ((K (F := F)).nSub 0) =>
          iprop(tBlk m d (Fin.cast nSub_zero i) ∗ bShare m d (Fin.cast nSub_zero i) ∗ oBlk d (Fin.cast nSub_zero i) (out m d)))
          -∗ iprop(tPts m d ∗ bPts m d ∗ oPts d (out m d))))
  rw [arrays_split, arrays_split]
  iintro H; imodintro
  isplitl [H]; · iexact H
  iintro H; iexact H

/-! ## The ghost state at the launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The main program -/

omit [FloatOps F] in
/-- The TensorCore's unscoped buffers are the three arrays. -/
theorem unscopedBufs_eq (d : Dev nD) (W : (b : Ref sig .tc) → Buf (Elt F) ((d.tc : Thread nD τ).loc b)) :
    (unscopedBufs d W : sProp 𝕄) = iprop((tLoc d ↦{fullShare} W main_arg0) ∗ (bLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ bPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ bPts m d ∗ oPts d (out m d)) :=
  bigSep_univ_of_subsingleton (0 : Fin 1)

/-- What the main program ends with: the arguments as they were, the result at `out`. -/
abbrev FIN (d : Dev nD) : sProp 𝕄 := iprop(tPts m d ∗ bPts m d ∗ oPts d (out m d))

/-- The main program makes its one call from the arrays as launched, and ends with `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]; · rw [st0_eq]; iexact Harr
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- The final memory of device `d`: the arguments as they were, the result at `out`. -/
def fq (d : Dev nD) (s' : Phys nD τ sig (Elt F)) : Prop :=
  s'.mem.mem (tLoc d) = m (tLoc d) ∧ s'.mem.mem (bLoc d) = m (bLoc d) ∧ s'.mem.mem (oLoc d) = out m d

theorem hfin (d : Dev nD) (s' : Phys nD τ sig (Elt F)) : iprop(FIN m d ∗ SI s') ⊢ (⌜fq m d s'⌝ : sProp 𝕄) := by
  iintro ⟨⟨Ht, Hb, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The whole run -/

/-- How the program's run ends: on every device the arguments as they were and the result at `out`, every semaphore at zero. -/
def QC : PUnit × MemSt nD τ sig (Elt F) → Prop := fun r =>
  (∀ c : Dev nD, r.2.mem (tLoc c) = m (tLoc c) ∧ r.2.mem (bLoc c) = m (bLoc c) ∧ r.2.mem (oLoc c) = out m c) ∧ r.2.sem = fun _ => 0

/-- The program's run, over any memory whose time steps name entries of the table, ends as `QC` states. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Reference.lean ====
/-
  The reference's value. The reference is a take: it counts a negative time step from the table's end, reads the table
  at the time step clamped into it, and puts NaN where the time step names no entry of the table. Where every time step
  names an entry of the table none of the three does anything, and the take is `Lookup.looked` (`take_eq`). `run_take`
  states the reference's run with the take as its value.
-/
module

public import proofs.«01_k».proof.Proof.Lookup
public import proofs.«01_k».proof.Proof.Gen.ReferenceIdeal.Run
public import Idealize.ShloMosaic.Lib.StableHlo.Predicate
public import Idealize.ShloMosaic.Lib.Quiescent

@[expose] public section

noncomputable section

namespace Cert.Proof.Reference

open Cert.ReferenceIdeal Cert.ReferenceIdeal.Gen Idealize.ShloMosaic Idealize.ShloMosaic.TcCoe Idealize.SL.Sem
open Idealize.ShloMosaic.StableHlo.Predicate
open Cert.Proof.Lookup

variable {F : FTy → Type} [FloatOps F]

/-- A word below 1000 is not negative as a signed number. -/
theorem not_neg {w : BitVec 32} (h : w.toNat < 1000) : IntOp.cmpi .slt w 0#32 = 0#1 := by
  have bit (p : Bool) : (BitVec.ofBool p = 0#1) ↔ p = false := by cases p <;> decide
  simp only [IntOp.cmpi, bit, BitVec.slt_eq_decide, decide_eq_false_iff_not, BitVec.toInt_eq_toNat_cond, BitVec.toNat_ofNat,
    Nat.reducePow, Nat.reduceMod]
  omega

/-- A word below 1000 is between 0 and 999 as a signed number. -/
theorem in_range {w : BitVec 32} (h : w.toNat < 1000) :
    IntOp.andi (IntOp.cmpi .sge w 0#32) (IntOp.cmpi .sle w 999#32) = 1#1 := by
  have bit (p : Bool) : (BitVec.ofBool p = 1#1) ↔ p = true := by cases p <;> decide
  rw [IntOp.andi_eq_one]
  simp only [IntOp.cmpi, bit, BitVec.sle_eq_decide, decide_eq_true_eq, BitVec.toInt_eq_toNat_cond, BitVec.toNat_ofNat,
    Nat.reducePow, Nat.reduceMod]
  omega

/-- A word below 1000, as a signed number clamped to 999, is its own value. -/
theorem clamped {w : BitVec 32} (h : w.toNat < 1000) : min w.toInt.toNat (1000 - 1) = w.toNat := by
  rw [BitVec.toInt_eq_toNat_cond]
  simp only [Nat.reducePow]
  split <;> omega

/-- The time steps, the negative ones counted from the table's end. -/
abbrev wrapped (t : IVec S16384 32) : IVec S16384 32 :=
  select (cmpi .slt t (broadcastInDim S16384 ![] bcast_S_S16384 (constantI S_ 32 0#32)))
    (addi t (broadcastInDim S16384 ![] bcast_S_S16384 (constantI S_ 32 1000#32))) t

/-- There are no negative ones. -/
theorem wrapped_eq (t : IVec S16384 32) (h : InTable t) : wrapped t = t := by
  funext y
  show (if IntOp.cmpi .slt (t y) 0#32 = 1#1 then IntOp.addi (t y) 1000#32 else t y) = t y
  rw [not_neg (h y)]
  rfl

/-- The time steps as a column. -/
abbrev column (t : IVec S16384 32) : IVec S16384x1 32 := broadcastInDim S16384x1 ![0] bcast_S16384_S16384x1_0 t

/-- Which time steps name an entry of the table. -/
abbrev named (t : IVec S16384 32) : IVec S16384 1 :=
  Host.reduce IntOp.andi
    (andi (cmpi .sge (column t) (broadcastInDim S16384x1 ![] bcast_S_S16384x1 (constantI S_ 32 0#32)))
      (cmpi .sle (column t) (broadcastInDim S16384x1 ![0, 1] bcast_S1x1_S16384x1_0_1 (broadcastInDim S1x1 ![1] bcast_S1_S1x1_1 (constantI S1 32 999#32)))))
    (constantI S_ 1 1#1) reducesTo_S16384x1_S16384_d1 h_S_

/-- All of them. -/
theorem named_eq (t : IVec S16384 32) (h : InTable t) (y : S16384.Idx) : named t y = 1#1 :=
  Host.reduce_andi_one _ _ _ _ y rfl fun _ => in_range (h _)

/-- The table read at the time steps is the values looked up. -/
theorem gather_eq (t : IVec S16384 32) (x : S1000.Idx → Elt F .f32) (h : InTable t) (y : S16384.Idx) :
    Host.gather gather_S1000_S16384x1_S16384_n_0_n_n_0_1_1 x (column t) y = looked (F := F) t x y := by
  obtain ⟨p, rfl⟩ : ∃ p : Fin 16384, y = Shape.Idx.ofFin p := ⟨y 0, funext fun a => by
    obtain rfl : a = 0 := Subsingleton.elim _ _
    rfl⟩
  refine (gather_take _ rfl rfl rfl rfl x (column t) p (by decide)).trans ?_
  refine congrArg x (eq_entry (h _) _ ?_)
  show min (column t (ixP p)).toInt.toNat (1000 - 1) = (t (Shape.Idx.ofFin p)).toNat
  rw [show column t (ixP p) = t (Shape.Idx.ofFin p) from bcast_col1 _ t p]
  exact clamped (h _)

/-- The take: the table read at the time steps where they name an entry of the table, NaN elsewhere. -/
abbrev take (t : IVec S16384 32) (x : S1000.Idx → Elt F .f32) : S16384.Idx → Elt F .f32 :=
  select (named (wrapped t)) (Host.gather gather_S1000_S16384x1_S16384_n_0_n_n_0_1_1 x (column (wrapped t)))
    (broadcastInDim S16384 ![] bcast_S_S16384 (constant (F := F) S_ .f32 0x7FC00000#32))

/-- A selection at an index where its condition holds is its first operand there. -/
theorem select_of_one {s : Shape} {α : Type} (c : IVec s 1) (a b : s.Idx → α) (y : s.Idx) (h : c y = 1#1) : select c a b y = a y := by
  unfold select
  exact if_pos h

/-- Where every time step names an entry of the table the take is the values looked up. -/
theorem take_eq (t : IVec S16384 32) (x : S1000.Idx → Elt F .f32) (h : InTable t) : take (F := F) t x = looked (F := F) t x := by
  unfold take
  rw [wrapped_eq t h]
  funext y
  rw [select_of_one _ _ _ y (named_eq t h y)]
  exact gather_eq t x h y

/-- The reference's run: the result is the take of the arguments, which end as they were. -/
theorem run_take (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0) = take (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

/-- The reference declares no semaphore, so that every counter is zero. -/
theorem no_sems (s : MemSt nD τ sig (Elt F)) : s.sem = fun _ => 0 := sem_eq_zero_of_no_sems (by decide) s

end Cert.Proof.Reference

end
-- ==== Proof.lean ====
/-
  The proof of `Cert.Claim`. The kernel's run is proved once, for any interpretation of the floats (`Launch.run_main`), and
  the kernel and its idealization, whose programs are the same text, both take their claims from it: at the bit patterns
  and at the extended reals. The value claims pair it with the reference's run (`Reference.run_take`), at the one and at the
  other: under the precondition both results are the table's entries at the time steps (`Lookup.looked`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_idx_in_table
public import proofs.«01_k».proof.Proof.Launch
public import proofs.«01_k».proof.Proof.Reference

@[expose] public section

noncomputable section

namespace Cert.Proof

open Idealize.ShloMosaic Idealize.SL.Sem
open Cert.Proof.Lookup Cert.Proof.Tile Cert.Proof.Launch

/-- From the precondition the kernel runs to its end, its arguments unchanged, every semaphore at zero. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ fun d => inTable_of_fn _ _ (hpre d))

/-- From the precondition the idealized kernel runs to its end, its arguments unchanged, every semaphore at zero. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d => inTable_of_fn _ _ (hpre d))

/-- The reference runs to its end from any memory, its arguments unchanged, every semaphore at zero. -/
theorem frame_reference : Cert.quiescent_ReferenceIdeal := fun m ρ _ =>
  (θ_run Cert.ReferenceIdeal.defs _ _).mono (fun r h => ⟨fun c => (h c).2, Reference.no_sems r.2⟩)
    (Reference.run_take (F := Ideal) m ρ)

/-- So it does from the memories of the precondition. -/
theorem frame_reference_pre : Cert.quiescent_ReferenceIdeal_pre_idx_in_table := fun m ρ _ => frame_reference m ρ trivial

/-- So does the reference read at the bit patterns. -/
theorem frame_reference_bits : Cert.quiescent_Reference := fun m ρ _ =>
  (θ_run Cert.ReferenceIdeal.defs _ _).mono (fun r h => ⟨fun c => (h c).2, Reference.no_sems r.2⟩)
    (Reference.run_take (F := Bits) m ρ)

section Pair

variable {F : FTy → Type} [FloatOps F] [∀ e, Nonempty (Elt F e)]

/-- The kernel's and the reference's runs from memories that agree on the arguments, for any interpretation of the floats:
    where every time step names an entry of the table both results are the table's entries at the time steps, and the
    arguments end as they were. -/
theorem runs_agree (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg)
    (hin : PreOK m)
    (hargs : ∀ c : Dev Cert.KernelIdeal.nD,
      m' ((c.tc : Thread Cert.ReferenceIdeal.nD Cert.ReferenceIdeal.τ).loc Cert.ReferenceIdeal.main_arg0) = m (tLoc c)
      ∧ m' ((c.tc : Thread Cert.ReferenceIdeal.nD Cert.ReferenceIdeal.τ).loc Cert.ReferenceIdeal.main_arg1) = m (bLoc c)) :
    θ_run (Cert.KernelIdeal.defs (F := F)) (Cert.KernelIdeal.threads (F := F)) ⟨m, fun _ => 0, ρ⟩ (fun r => ∀ c : Dev Cert.KernelIdeal.nD,
        r.2.mem (oLoc c) = out m c ∧ r.2.mem (tLoc c) = m (tLoc c) ∧ r.2.mem (bLoc c) = m (bLoc c))
    ∧ θ_run (Cert.ReferenceIdeal.defs (F := F)) (onTc (τ := Cert.ReferenceIdeal.τ) (Cert.ReferenceIdeal.main (F := F))) ⟨m', fun _ => 0, ρ'⟩ (fun r =>
        ∀ c : Dev Cert.ReferenceIdeal.nD,
        r.2.mem ((c.tc : Thread Cert.ReferenceIdeal.nD Cert.ReferenceIdeal.τ).loc Cert.ReferenceIdeal.main_v0) = out m c
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) := by
  refine ⟨?_, ?_⟩
  · exact (θ_run Cert.KernelIdeal.defs _ _).mono (fun _ h c => ⟨(h.1 c).2.2, (h.1 c).1, (h.1 c).2.1⟩) (run_main m ρ hin)
  · refine (θ_run Cert.ReferenceIdeal.defs _ _).mono (fun _ h c => ⟨(h c).1.trans ?_, (h c).2⟩) (Reference.run_take m' ρ')
    rw [(hargs c).1, (hargs c).2]
    exact Reference.take_eq _ _ (hin c)

end Pair

/-- From memories that agree on the arguments, and of which the precondition holds, the idealized kernel and the reference
    end with equal results: the table's entries at the time steps. -/
theorem value : Cert.algebraic_KernelIdeal_ReferenceIdeal := fun m ρ m' ρ' hpre hargs =>
  ⟨fun c => out (F := Ideal) m c, runs_agree (F := Ideal) m ρ m' ρ' (fun d => inTable_of_fn _ _ (hpre d)) hargs⟩

/-- So do the kernel and the reference read at the bit patterns, word for word. -/
theorem value_bits : Cert.bitexact_Kernel_Reference := fun m ρ m' ρ' hpre hargs =>
  ⟨fun c => out (F := Bits) m c, runs_agree (F := Bits) m ρ m' ρ' (fun d => inTable_of_fn _ _ (hpre d)) hargs⟩

theorem claim : Cert.Claim := ⟨Cert.Kernel.Gen.facts, Cert.KernelIdeal.Gen.facts, Cert.ReferenceIdeal.Gen.facts, Cert.Reference.Gen.facts,
  Cert.Pre_idx_in_table.Gen.facts,
  frame_kernel, frame_ideal, frame_reference, frame_reference_pre, frame_reference_bits, trivial, value, value_bits⟩

end Cert.Proof

end
